-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S5000x128 : Shape := ⟨2, ![5000, 128]⟩
abbrev S5000 : Shape := ⟨1, ![5000]⟩
abbrev S5000x1 : Shape := ⟨2, ![5000, 1]⟩
abbrev S128x128 : Shape := ⟨2, ![128, 128]⟩

abbrev nBuf : Space → Nat
  | .hbm => 7
  | .vmem => 4
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S10000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S10000x64 : Shape := ⟨2, ![10000, 64]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩
abbrev S10000x32 : Shape := ⟨2, ![10000, 32]⟩
abbrev S330000x32 : Shape := ⟨2, ![330000, 32]⟩
abbrev S1x32 : Shape := ⟨2, ![1, 32]⟩
abbrev S10000x1 : Shape := ⟨2, ![10000, 1]⟩

abbrev nBuf : Space → Nat
  | .hbm => 176
  | .vmem => 0
  | .smem => 0
  | _ => 0

abbrev hbmTy0_0 (i : Nat) : BufTy := match i % 128 with
  | 0 => ⟨S10000x128, .f32⟩
  | 1 => ⟨S2x320000, .i32⟩
  | 2 => ⟨S128x64, .f32⟩
  | 3 => ⟨S64, .f32⟩
  | 4 => ⟨S64x32, .f32⟩
  | 5 => ⟨S32, .f32⟩
  | 6 => ⟨S1x320000, .i32⟩
  | 7 => ⟨S320000, .i32⟩
  | 8 => ⟨S1x320000, .i32⟩
  | 9 => ⟨S320000, .i32⟩
  | 10 => ⟨S10000, .i32⟩
  | 11 => ⟨S330000, .i32⟩
  | 12 => ⟨S330000, .i32⟩
  | 13 => ⟨S10000x64, .f32⟩
  | 14 => ⟨S_, .f32⟩
  | 15 => ⟨S10000, .f32⟩
  | 16 => ⟨S_, .i32⟩
  | 17 => ⟨S330000, .i32⟩
  | 18 => ⟨S330000, .i1⟩
  | 19 => ⟨S_, .i32⟩
  | 20 => ⟨S330000, .i32⟩
  | 21 => ⟨S330000, .i32⟩
  | 22 => ⟨S330000, .i32⟩
  | 23 => ⟨S330000x1, .i32⟩
  | 24 => ⟨S_, .f32⟩
  | 25 => ⟨S330000, .f32⟩
  | 26 => ⟨S10000, .f32⟩
  | 27 => ⟨S_, .f32⟩
  | 28 => ⟨S10000, .f32⟩
  | 29 => ⟨S10000, .i1⟩
  | 30 => ⟨S_, .f32⟩
  | 31 => ⟨S10000, .f32⟩
  | 32 => ⟨S10000, .f32⟩
  | 33 => ⟨S_, .f32⟩
  | 34 => ⟨S_, .f32⟩
  | 35 => ⟨S10000, .f32⟩
  | 36 => ⟨S10000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S_, .i32⟩
  | 47 => ⟨S330000, .i32⟩
  | 48 => ⟨S330000, .i1⟩
  | 49 => ⟨S_, .i32⟩
  | 50 => ⟨S330000, .i32⟩
  | 51 => ⟨S330000, .i32⟩
  | 52 => ⟨S330000, .i32⟩
  | 53 => ⟨S330000x1, .i32⟩
  | 54 => ⟨S330000, .f32⟩
  | 55 => ⟨S330000, .f32⟩
  | 56 => ⟨S_, .i32⟩
  | 57 => ⟨S330000, .i32⟩
  | 58 => ⟨S330000, .i1⟩
  | 59 => ⟨S_, .i32⟩
  | 60 => ⟨S330000, .i32⟩
  | 61 => ⟨S330000, .i32⟩
  | 62 => ⟨S330000, .i32⟩
  | 63 => ⟨S330000x1, .i32⟩
  | 64 => ⟨S330000x64, .f32⟩
  | 65 => ⟨S330000x1, .f32⟩
  | 66 => ⟨S330000x64, .f32⟩
  | 67 => ⟨S330000x64, .f32⟩
  | 68 => ⟨S_, .f32⟩
  | 69 => ⟨S10000x64, .f32⟩
  | 70 => ⟨S_, .i32⟩
  | 71 => ⟨S330000, .i32⟩
  | 72 => ⟨S330000, .i1⟩
  | 73 => ⟨S_, .i32⟩
  | 74 => ⟨S330000, .i32⟩
  | 75 => ⟨S330000, .i32⟩
  | 76 => ⟨S330000, .i32⟩
  | 77 => ⟨S330000x1, .i32⟩
  | 78 => ⟨S10000x64, .f32⟩
  | 79 => ⟨S1x64, .f32⟩
  | 80 => ⟨S10000x64, .f32⟩
  | 81 => ⟨S10000x64, .f32⟩
  | 82 => ⟨S_, .f32⟩
  | 83 => ⟨S10000x64, .f32⟩
  | 84 => ⟨S10000x64, .f32⟩
  | 85 => ⟨S1x320000, .i32⟩
  | 86 => ⟨S320000, .i32⟩
  | 87 => ⟨S1x320000, .i32⟩
  | 88 => ⟨S320000, .i32⟩
  | 89 => ⟨S10000, .i32⟩
  | 90 => ⟨S330000, .i32⟩
  | 91 => ⟨S330000, .i32⟩
  | 92 => ⟨S10000x32, .f32⟩
  | 93 => ⟨S_, .f32⟩
  | 94 => ⟨S10000, .f32⟩
  | 95 => ⟨S_, .i32⟩
  | 96 => ⟨S330000, .i32⟩
  | 97 => ⟨S330000, .i1⟩
  | 98 => ⟨S_, .i32⟩
  | 99 => ⟨S330000, .i32⟩
  | 100 => ⟨S330000, .i32⟩
  | 101 => ⟨S330000, .i32⟩
  | 102 => ⟨S330000x1, .i32⟩
  | 103 => ⟨S_, .f32⟩
  | 104 => ⟨S330000, .f32⟩
  | 105 => ⟨S10000, .f32⟩
  | 106 => ⟨S_, .f32⟩
  | 107 => ⟨S10000, .f32⟩
  | 108 => ⟨S10000, .i1⟩
  | 109 => ⟨S_, .f32⟩
  | 110 => ⟨S10000, .f32⟩
  | 111 => ⟨S10000, .f32⟩
  | 112 => ⟨S_, .f32⟩
  | 113 => ⟨S_, .f32⟩
  | 114 => ⟨S10000, .f32⟩
  | 115 => ⟨S10000, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000, .f32⟩
  | 125 => ⟨S_, .i32⟩
  | 126 => ⟨S330000, .i32⟩
  | 127 => ⟨S330000, .i1⟩
  | _ => ⟨S10000x128, .f32⟩

abbrev hbmTy0_1 (i : Nat) : BufTy := match i % 128 with
  | 0 => ⟨S_, .i32⟩
  | 1 => ⟨S330000, .i32⟩
  | 2 => ⟨S330000, .i32⟩
  | 3 => ⟨S330000, .i32⟩
  | 4 => ⟨S330000x1, .i32⟩
  | 5 => ⟨S330000, .f32⟩
  | 6 => ⟨S330000, .f32⟩
  | 7 => ⟨S_, .i32⟩
  | 8 => ⟨S330000, .i32⟩
  | 9 => ⟨S330000, .i1⟩
  | 10 => ⟨S_, .i32⟩
  | 11 => ⟨S330000, .i32⟩
  | 12 => ⟨S330000, .i32⟩
  | 13 => ⟨S330000, .i32⟩
  | 14 => ⟨S330000x1, .i32⟩
  | 15 => ⟨S330000x32, .f32⟩
  | 16 => ⟨S330000x1, .f32⟩
  | 17 => ⟨S330000x32, .f32⟩
  | 18 => ⟨S330000x32, .f32⟩
  | 19 => ⟨S_, .f32⟩
  | 20 => ⟨S10000x32, .f32⟩
  | 21 => ⟨S_, .i32⟩
  | 22 => ⟨S330000, .i32⟩
  | 23 => ⟨S330000, .i1⟩
  | 24 => ⟨S_, .i32⟩
  | 25 => ⟨S330000, .i32⟩
  | 26 => ⟨S330000, .i32⟩
  | 27 => ⟨S330000, .i32⟩
  | 28 => ⟨S330000x1, .i32⟩
  | 29 => ⟨S10000x32, .f32⟩
  | 30 => ⟨S1x32, .f32⟩
  | 31 => ⟨S10000x32, .f32⟩
  | 32 => ⟨S10000x32, .f32⟩
  | 33 => ⟨S_, .f32⟩
  | 34 => ⟨S10000, .f32⟩
  | 35 => ⟨S_, .f32⟩
  | 36 => ⟨S10000, .f32⟩
  | 37 => ⟨S10000, .f32⟩
  | 38 => ⟨S10000x1, .f32⟩
  | 39 => ⟨S10000x128, .f32⟩
  | 40 => ⟨S10000x128, .f32⟩
  | 41 => ⟨S10000x128, .f32⟩
  | 42 => ⟨S_, .f32⟩
  | 43 => ⟨S10000, .f32⟩
  | 44 => ⟨S10000x1, .f32⟩
  | 45 => ⟨S10000x1, .f32⟩
  | 46 => ⟨S10000x128, .f32⟩
  | 47 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_c_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call1_cst : Ref sig .tc := ⟨.hbm, 82, rfl⟩
abbrev main_call1_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_cst_20 : Ref sig .tc := ⟨.hbm, 112, rfl⟩
abbrev main_call2_v0 : Ref sig .tc := ⟨.hbm, 113, rfl⟩
abbrev main_call2_v1 : Ref sig .tc := ⟨.hbm, 114, rfl⟩
abbrev main_v80 : Ref sig .tc := ⟨.hbm, 115, rfl⟩
abbrev main_c_21 : Ref sig .tc := ⟨.hbm, 116, rfl⟩
abbrev main_v81 : Ref sig .tc := ⟨.hbm, 117, rfl⟩
abbrev main_v82 : Ref sig .tc := ⟨.hbm, 118, rfl⟩
abbrev main_c_22 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_23 : Ref sig .tc := ⟨.hbm, 125, rfl⟩
abbrev main_v88 : Ref sig .tc := ⟨.hbm, 126, rfl⟩
abbrev main_v89 : Ref sig .tc := ⟨.hbm, 127, rfl⟩
abbrev main_c_24 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_25 : Ref sig .tc := ⟨.hbm, 135, rfl⟩
abbrev main_v96 : Ref sig .tc := ⟨.hbm, 136, rfl⟩
abbrev main_v97 : Ref sig .tc := ⟨.hbm, 137, rfl⟩
abbrev main_c_26 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_27 : Ref sig .tc := ⟨.hbm, 147, rfl⟩
abbrev main_v106 : Ref sig .tc := ⟨.hbm, 148, rfl⟩
abbrev main_c_28 : Ref sig .tc := ⟨.hbm, 149, rfl⟩
abbrev main_v107 : Ref sig .tc := ⟨.hbm, 150, rfl⟩
abbrev main_v108 : Ref sig .tc := ⟨.hbm, 151, rfl⟩
abbrev main_c_29 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_call3_cst : Ref sig .tc := ⟨.hbm, 161, rfl⟩
abbrev main_call3_v0 : Ref sig .tc := ⟨.hbm, 162, rfl⟩
abbrev main_call3_cst_0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_cst_1 : Ref sig .tc := ⟨.hbm, 170, rfl⟩
abbrev main_call3_v7 : Ref sig .tc := ⟨.hbm, 171, rfl⟩
abbrev main_call3_v8 : Ref sig .tc := ⟨.hbm, 172, rfl⟩
abbrev main_call3_v9 : Ref sig .tc := ⟨.hbm, 173, rfl⟩
abbrev main_call3_v10 : Ref sig .tc := ⟨.hbm, 174, rfl⟩
abbrev main_v117 : Ref sig .tc := ⟨.hbm, 175, rfl⟩

abbrev nD : Nat := 1
abbrev τ : Topo := Topo.v7x

variable {F : FTy → Type} [FloatOps F]
-- ==== Proof.Row.lean ====
/-
  LOG-SOFTMAX OF ONE ROW over the extended reals: the function that both programs are shown to compute, row by row.
-/
module

public import Idealize.ShloMosaic.Lib.Pointwise

@[expose] public section

noncomputable section

open Idealize.ShloMosaic

namespace Cert.Row

/-- The largest of the 128 entries of a row (`-∞` is the least extended real, so it is a neutral start). -/
def top (r : Fin 128 → EReal) : EReal := Finset.univ.fold max ⊥ r

/-- The sum of the exponentials of a row, each entry first lowered by the row's largest. -/
def mass (r : Fin 128 → EReal) : EReal := ∑ k : Fin 128, Ideal.exp (r k - top r)

/-- Entry `j` of the log-softmax of a row: the entry lowered by the largest, less the logarithm of the row's mass. -/
def logSoftmax (r : Fin 128 → EReal) (j : Fin 128) : EReal := r j - top r - Ideal.log (mass r)

/-- The row-wise log-softmax of a 10000 × 128 array. -/
def rows (x : (⟨2, ![10000, 128]⟩ : Shape).Idx → EReal) : (⟨2, ![10000, 128]⟩ : Shape).Idx → EReal :=
  fun i => logSoftmax (fun k => x (ix2 (i 0) k)) (i 1)

/-- The f32 pattern that a maximum starts from denotes `-∞`. -/
theorem ofBits_neg_inf : Ideal.ofBits .f32 0xFF800000#32 = ⊥ := by
  simp [Ideal.ofBits, Ideal.ieee]

/-- A row's largest entry, with the start spelt as its f32 pattern. -/
theorem fold_pattern (r : Fin 128 → EReal) :
    Finset.univ.fold max (Ideal.ofBits .f32 0xFF800000#32) r = top r := by
  rw [ofBits_neg_inf]; rfl

end Cert.Row

end
-- ==== Proof.Block.lean ====
/-
  ONE BLOCK of the kernel: what its body stores, read at an index, is the log-softmax of the block's row there.
-/
module

public import proofs.«01_k».proof.Proof.Row
public import proofs.«01_k».proof.Proof.Gen.KernelIdeal.Skeleton

@[expose] public section

noncomputable section

open Idealize.ShloMosaic

namespace Cert.KernelIdeal.Block

open Cert.KernelIdeal Cert.KernelIdeal.Gen

set_option maxRecDepth 16384 in
/-- The body's payload at row `i`, lane `j`: the product with the all-ones matrix puts the row's mass in every lane,
    so the stored entry is the row's log-softmax at `j`. The cast to bf16 is the identity over the extended reals. -/
theorem pay_apply (x : FVec Ideal S5000x128 .f32) (i : Fin 5000) (j : Fin 128) :
    k0_pay1 (F := Ideal) x (ix2 i j) = Row.logSoftmax (fun k => x (ix2 i k)) j := by
  pointwise [k0_pay1]
  simp only [Row.fold_pattern]
  rfl

end Cert.KernelIdeal.Block

end
-- ==== Proof.KernelValue.lean ====
/-
  WHAT THE KERNEL'S RESULT ARRAY HOLDS: two points write two blocks of 5000 rows each; together they are the row-wise
  log-softmax of the argument array.
-/
module

public import proofs.«01_k».proof.Proof.Block
public import proofs.«01_k».proof.Proof.Gen.KernelIdeal.Value

@[expose] public section

noncomputable section

open Idealize.ShloMosaic Idealize.ShloMosaic.TcCoe Idealize.SL.Sem
open Idealize.ShloMosaic.Pipeline (Dat)

namespace Cert.KernelIdeal.RowValue

open Cert.KernelIdeal Cert.KernelIdeal.Gen

variable (m : (ℓ : Loc nD τ sig) → Buf (Elt Ideal) ℓ) (ρ : Dev nD → PrngReg)

/-- The row-wise log-softmax of device `c`'s first argument. -/
abbrev goal (c : Dev nD) : Buf (Elt Ideal) ((c : Thread nD τ).loc main_v0) :=
  Row.rows (m ((c : Thread nD τ).loc main_arg0))

/-- The body loads and stores at the origin of its staging buffers. -/
theorem origin : (![0, 0] : Fin 2 → Nat) = fun _ => 0 := funext fun a => by fin_cases a <;> rfl

/-- Where point `t`'s block of the result lies: 5000 rows from row `5000 t`, all 128 lanes. -/
theorem window (t : Fin cfg0.N) :
    win0_1.index t 0 * win0_1.size 0 = t.val * 5000 ∧ win0_1.xsize (grid0.coords t) 0 = 5000
      ∧ win0_1.index t 1 * win0_1.size 1 = 0 ∧ win0_1.xsize (grid0.coords t) 1 = 128 := by
  revert t; decide +kernel

/-- What point `t` writes back is block `t` of the row-wise log-softmax: the block's rows are whole rows of the argument,
    the input and the output being tiled alike. -/
theorem flushed_eq (c : Dev nD) (t : Fin cfg0.N) :
    (dats m 0 c).flushed 1 t = (win0_1.blk t).view.read (Elt Ideal) (goal m c) := by
  show (cfg0.win 1).cut (grid0.coords t) ((dats m 0 c).after 1 t) = _
  rw [after0_1]
  unfold out0_1
  rw [View.canon_unit_zero origin, View.ld_unit_zero origin]
  funext j
  obtain ⟨a, b, rfl⟩ : ∃ (a : Fin 5000) (b : Fin 128), j = ix2 a b := ⟨j 0, j 1, eq_ix2 j⟩
  refine (Block.pay_apply _ a b).trans ?_
  have key : ∀ k : Fin 128, ((win0_0.blk t).view.emb (ix2 a k) : S10000x128.Idx)
      = ix2 (((win0_1.blk t).view.emb (ix2 a b) : S10000x128.Idx) 0) k := fun k => by
    funext d
    apply Fin.ext
    match d with
    | ⟨0, _⟩ => rfl
    | ⟨1, _⟩ => exact (show 0 * 128 + 1 * k.val = k.val by omega)
  have lane : ((win0_1.blk t).view.emb (ix2 a b) : S10000x128.Idx) 1 = b :=
    Fin.ext (show 0 * 128 + 1 * b.val = b.val by omega)
  have rhs : (win0_1.blk t).view.read (Elt Ideal) (goal m c) (ix2 a b)
      = Row.rows (m ((c : Thread nD τ).loc main_arg0)) ((win0_1.blk t).view.emb (ix2 a b)) := rfl
  have lhs : ∀ k : Fin 128, iblk m c 0 t (ix2 a k)
      = m ((c : Thread nD τ).loc main_arg0) ((win0_0.blk t).view.emb (ix2 a k)) := fun _ => rfl
  refine Eq.trans ?_ rhs.symm
  unfold Row.rows
  rw [lane]
  refine congrArg (fun r => Row.logSoftmax r b) (funext fun k => (lhs k).trans ?_)
  exact congrArg (m ((c : Thread nD τ).loc main_arg0)) (key k)

/-- An index of the result lies in point `t`'s block exactly when its row does. -/
theorem mem_block (t : Fin cfg0.N) (i : S10000x128.Idx) :
    i ∈ ((cfg0.win 1).blk t).view.set ↔ t.val * 5000 ≤ (i 0 : Nat) ∧ (i 0 : Nat) < t.val * 5000 + 5000 := by
  show i ∈ ((View.whole main_v0).slice (win0_1.rect t)).set ↔ _
  rw [View.set_slice_whole, Rect.mem_set_unit]
  obtain ⟨e0, s0, e1, s1⟩ := window t
  have h1 : (i 1 : Nat) < 128 := (i 1).isLt
  constructor
  · intro h
    have h0 : win0_1.index t 0 * win0_1.size 0 ≤ (i 0 : Nat)
        ∧ (i 0 : Nat) < win0_1.index t 0 * win0_1.size 0 + win0_1.xsize (grid0.coords t) 0 := h 0
    rwa [e0, s0] at h0
  · intro h
    refine Fin.forall_fin_two.2 ⟨?_, ?_⟩
    · show win0_1.index t 0 * win0_1.size 0 ≤ (i 0 : Nat)
        ∧ (i 0 : Nat) < win0_1.index t 0 * win0_1.size 0 + win0_1.xsize (grid0.coords t) 0
      rwa [e0, s0]
    · show win0_1.index t 1 * win0_1.size 1 ≤ (i 1 : Nat)
        ∧ (i 1 : Nat) < win0_1.index t 1 * win0_1.size 1 + win0_1.xsize (grid0.coords t) 1
      rw [e1, s1]; omega

/-- The two blocks cover the result: row `r` is in block `r / 5000`. -/
theorem cover (i : S10000x128.Idx) :
    ∃ t : Fin cfg0.N, (cfg0.win 1).flush t = true ∧ i ∈ ((cfg0.win 1).blk t).view.set := by
  have hr : (i 0 : Nat) < 10000 := (i 0).isLt
  have hN : cfg0.N = 2 := N_0
  refine ⟨⟨(i 0 : Nat) / 5000, by omega⟩, flush0_1 _, (mem_block _ i).2 ?_⟩
  dsimp only
  omega

/-- So the result array ends holding the row-wise log-softmax of the argument. -/
theorem final (c : Dev nD) : (dats m 0 c).arrAt 1 cfg0.N = goal m c :=
  (dats m 0 c).arrAt_eq_of_cover 1 (goal m c) (fun t _ => flushed_eq m c t) cover

end Cert.KernelIdeal.RowValue

end
-- ==== Proof.ReferenceValue.lean ====
/-
  WHAT THE REFERENCE COMPUTES: its result term, read at an index, is the same row-wise log-softmax.
-/
module

public import proofs.«01_k».proof.Proof.Row
public import proofs.«01_k».proof.Proof.Gen.ReferenceIdeal.Run

@[expose] public section

noncomputable section

open Idealize.ShloMosaic Idealize.ShloMosaic.TcCoe Idealize.SL.Sem

namespace Cert.ReferenceIdeal.RowValue

open Cert.ReferenceIdeal Cert.ReferenceIdeal.Gen

variable (x : FVec Ideal S10000x128 .f32)

/-- Every entry lowered by its row's maximum, in the reference's operations. -/
def lowered : FVec Ideal S10000x128 .f32 :=
  subf x (broadcastInDim S10000x128 ![0, 1] bcast_S10000x1_S10000x128_0_1
    (broadcastInDim S10000x1 ![0] bcast_S10000_S10000x1_0
      (maximumf (broadcastInDim S10000 ![] bcast_S_S10000 (constant S_ .f32 0xFF800000#32))
        (Host.reduce FloatOps.maximumf x (constant S_ .f32 0xFF800000#32) reducesTo_S10000x128_S10000_d1 h_S_))))

/-- The reference's result as a term of its first argument. -/
def term : FVec Ideal S10000x128 .f32 :=
  subf (lowered x) (broadcastInDim S10000x128 ![0, 1] bcast_S10000x1_S10000x128_0_1
    (Host.log (broadcastInDim S10000x1 ![0] bcast_S10000_S10000x1_0
      (Host.reduceAdd (Host.exp (lowered x)) (constant S_ .f32 0x00000000#32) reducesTo_S10000x128_S10000_d1 h_S_))))

set_option maxRecDepth 16384 in
/-- Read at an index, a lowered entry is the entry less its row's largest: the second maximum, with `-∞`, changes nothing. -/
theorem lowered_apply (i : Fin 10000) (j : Fin 128) :
    lowered x (ix2 i j) = x (ix2 i j) - Row.top fun k => x (ix2 i k) := by
  pointwise [lowered]
  simp only [Row.fold_pattern, Row.ofBits_neg_inf, bot_le, max_eq_right]
  rfl

set_option maxRecDepth 16384 in
/-- The reference's result is the row-wise log-softmax of its first argument. -/
theorem term_eq : term x = Row.rows x := by
  funext i
  obtain ⟨a, b, rfl⟩ : ∃ (a : Fin 10000) (b : Fin 128), i = ix2 a b := ⟨i 0, i 1, eq_ix2 i⟩
  pointwise [term]
  simp only [lowered_apply]
  rfl

variable (m : (ℓ : Loc nD τ sig) → Buf (Elt Ideal) ℓ) (ρ : Dev nD → PrngReg)

/-- Every execution of the reference ends with the row-wise log-softmax in its result, the arguments unchanged. The two
    graph convolutions before it run too, but nothing of them reaches the result. -/
theorem run : θ_run defs (onTc (τ := τ) (main (F := Ideal))) ⟨m, fun _ => 0, ρ⟩ fun r => ∀ c : Dev nD,
      r.2.mem ((c : Thread nD τ).loc main_v117) = Row.rows (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (term_eq _), (h c).2⟩) (Value.run (F := Ideal) m ρ)

end Cert.ReferenceIdeal.RowValue

end
-- ==== Proof.lean ====
/-
  The kernel streams a 10000 × 128 array through two blocks of 5000 rows and stores the log-softmax of every row; the
  reference computes jax's log-softmax of the same array. Here: the frames, and the equality of the two results over
  the extended reals, both being `Cert.Row.rows` of the first argument.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs without fault, leaves its arguments as they were, and uses no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.RowValue.run m ρ)

/-- Over the extended reals the kernel and the reference end with the same result: the row-wise log-softmax of the
    first argument. -/
theorem algebraic : Cert.algebraic_KernelIdeal_ReferenceIdeal := by
  intro m ρ m' ρ' _ hagree
  refine ⟨fun c => Cert.KernelIdeal.RowValue.goal m c, ?_, ?_⟩
  · exact (θ_run Cert.KernelIdeal.defs _ _).mono
      (fun _ h c => ⟨(h c).1.trans (Cert.KernelIdeal.RowValue.final m c), (h c).2⟩)
      (Cert.KernelIdeal.Value.run_blocks (F := Ideal) m ρ)
  · exact (θ_run Cert.ReferenceIdeal.defs _ _).mono
      (fun _ h c => ⟨(h c).1.trans (congrArg Cert.Row.rows (hagree c).1), (h c).2⟩)
      (Cert.ReferenceIdeal.RowValue.run m' ρ')

/-- The five claims: the three frames, the idealization (no operation was rewritten), and the equality of the results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference,
    trivial, algebraic⟩

end Cert.Proof

end
